-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x8192 : Shape := ⟨3, ![4, 1024, 8192]⟩
abbrev S_ : Shape := ⟨0, ![]⟩
abbrev S4x1024x2560 : Shape := ⟨3, ![4, 1024, 2560]⟩
abbrev S8192x2560 : Shape := ⟨2, ![8192, 2560]⟩
abbrev S4096x8192 : Shape := ⟨2, ![4096, 8192]⟩
abbrev S4096x2560 : Shape := ⟨2, ![4096, 2560]⟩
abbrev S1x1 : Shape := ⟨2, ![1, 1]⟩
abbrev S512x2560 : Shape := ⟨2, ![512, 2560]⟩
abbrev S1x2560 : Shape := ⟨2, ![1, 2560]⟩
abbrev S2560 : Shape := ⟨1, ![2560]⟩
abbrev S1 : Shape := ⟨1, ![1]⟩
abbrev S1x384 : Shape := ⟨2, ![1, 384]⟩
abbrev S4096x512 : Shape := ⟨2, ![4096, 512]⟩

abbrev nBuf : Space → Nat
  | .hbm => 13
  | .vmem => 16
  | .smem => 3
  | _ => 0

abbrev bufTy : (tb : Table) → Fin (tcTables nBuf tb) → BufTy
  | .hbm, ⟨0, _⟩ => ⟨S4x1024x8192, .fp8e4m3⟩
  | .hbm, ⟨1, _⟩ => ⟨S_, .f32⟩
  | .hbm, ⟨2, _⟩ => ⟨S4x1024x2560, .bf16⟩
  | .hbm, ⟨3, _⟩ => ⟨S8192x2560, .f32⟩
  | .hbm, ⟨4, _⟩ => ⟨S4096x8192, .fp8e4m3⟩
  | .hbm, ⟨5, _⟩ => ⟨S4096x2560, .bf16⟩
  | .hbm, ⟨6, _⟩ => ⟨S1x1, .f32⟩
  | .hbm, ⟨7, _⟩ => ⟨S1x1, .f32⟩
  | .hbm, ⟨8, _⟩ => ⟨S4096x2560, .fp8e5m2⟩
  | .hbm, ⟨9, _⟩ => ⟨S1x1, .f32⟩
  | .hbm, ⟨10, _⟩ => ⟨S8192x2560, .f32⟩
  | .hbm, ⟨11, _⟩ => ⟨S4x1024x2560, .fp8e5m2⟩
  | .hbm, ⟨12, _⟩ => ⟨S_, .f32⟩
  | .local _ .vmem, ⟨0, _⟩ => ⟨S512x2560, .bf16⟩
  | .local _ .vmem, ⟨1, _⟩ => ⟨S512x2560, .bf16⟩
  | .local _ .vmem, ⟨2, _⟩ => ⟨S1x1, .f32⟩
  | .local _ .vmem, ⟨3, _⟩ => ⟨S1x1, .f32⟩
  | .local _ .vmem, ⟨4, _⟩ => ⟨S1x2560, .bf16⟩
  | .local _ .vmem, ⟨5, _⟩ => ⟨S512x2560, .bf16⟩
  | .local _ .vmem, ⟨6, _⟩ => ⟨S512x2560, .bf16⟩
  | .local _ .vmem, ⟨7, _⟩ => ⟨S512x2560, .fp8e5m2⟩
  | .local _ .vmem, ⟨8, _⟩ => ⟨S512x2560, .fp8e5m2⟩
  | .local _ .vmem, ⟨9, _⟩ => ⟨S4096x512, .fp8e4m3⟩
  | .local _ .vmem, ⟨10, _⟩ => ⟨S4096x512, .fp8e4m3⟩
  | .local _ .vmem, ⟨11, _⟩ => ⟨S4096x2560, .fp8e5m2⟩
  | .local _ .vmem, ⟨12, _⟩ => ⟨S512x2560, .f32⟩
  | .local _ .vmem, ⟨13, _⟩ => ⟨S512x2560, .f32⟩
  | .local _ .vmem, ⟨14, _⟩ => ⟨S512x2560, .f32⟩
  | .local _ .vmem, ⟨15, _⟩ => ⟨S512x2560, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S4x1024x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg4_1 : Ref sig .tc := ⟨.vmem, 13, rfl⟩
abbrev cc2_stg5_0 : Ref sig .tc := ⟨.vmem, 14, rfl⟩
abbrev cc2_stg5_1 : Ref sig .tc := ⟨.vmem, 15, rfl⟩
abbrev cc1_stg0_0 : Ref sig .tc := ⟨.smem, 0, rfl⟩
abbrev cc2_stg0_0 : Ref sig .tc := ⟨.smem, 1, rfl⟩
abbrev cc2_stg1_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc2_sem0_0 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem4_0 : DmaSem sig := 14
abbrev cc2_sem4_1 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x2560 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2560 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x512 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4096x2560 .fp8e5m2 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x2560 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x2560 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S4x1024x8192 : Shape := ⟨3, ![4, 1024, 8192]⟩
abbrev S_ : Shape := ⟨0, ![]⟩
abbrev S4x1024x2560 : Shape := ⟨3, ![4, 1024, 2560]⟩
abbrev S8192x2560 : Shape := ⟨2, ![8192, 2560]⟩
abbrev S1x1 : Shape := ⟨2, ![1, 1]⟩
abbrev S1x4x1024x2560 : Shape := ⟨4, ![1, 4, 1024, 2560]⟩
abbrev S1 : Shape := ⟨1, ![1]⟩
abbrev S1x1x1x1 : Shape := ⟨4, ![1, 1, 1, 1]⟩
abbrev S1x384 : Shape := ⟨2, ![1, 384]⟩
abbrev S1x1x384 : Shape := ⟨3, ![1, 1, 384]⟩
abbrev S1x1x1 : Shape := ⟨3, ![1, 1, 1]⟩

abbrev nBuf : Space → Nat
  | .hbm => 9
  | .vmem => 7
  | .smem => 0
  | _ => 0

abbrev bufTy : (tb : Table) → Fin (tcTables nBuf tb) → BufTy
  | .hbm, ⟨0, _⟩ => ⟨S4x1024x8192, .fp8e4m3⟩
  | .hbm, ⟨1, _⟩ => ⟨S_, .f32⟩
  | .hbm, ⟨2, _⟩ => ⟨S4x1024x2560, .bf16⟩
  | .hbm, ⟨3, _⟩ => ⟨S8192x2560, .f32⟩
  | .hbm, ⟨4, _⟩ => ⟨S1x1, .f32⟩
  | .hbm, ⟨5, _⟩ => ⟨S8192x2560, .f32⟩
  | .hbm, ⟨6, _⟩ => ⟨S4x1024x2560, .fp8e5m2⟩
  | .hbm, ⟨7, _⟩ => ⟨S1x1, .f32⟩
  | .hbm, ⟨8, _⟩ => ⟨S_, .f32⟩
  | .local _ .vmem, ⟨0, _⟩ => ⟨S4x1024x8192, .fp8e4m3⟩
  | .local _ .vmem, ⟨1, _⟩ => ⟨S1x1, .f32⟩
  | .local _ .vmem, ⟨2, _⟩ => ⟨S4x1024x2560, .bf16⟩
  | .local _ .vmem, ⟨3, _⟩ => ⟨S8192x2560, .f32⟩
  | .local _ .vmem, ⟨4, _⟩ => ⟨S8192x2560, .f32⟩
  | .local _ .vmem, ⟨5, _⟩ => ⟨S4x1024x2560, .fp8e5m2⟩
  | .local _ .vmem, ⟨6, _⟩ => ⟨S1x1, .f32⟩
  | _, _ => ⟨S4x1024x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1024x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x2560 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
/- The scale's exponent, in plain arithmetic: words that spell powers of two, the number of powers of two up to a value, and the same number as the least
   power above it. -/
module

public import Idealize.ShloMosaic.Lib.Pointwise
public import Idealize.ShloMosaic.Lib.Pipeline.ValueKit

@[expose] public section

set_option maxRecDepth 16384

noncomputable section

namespace Cert.Exponent

open Idealize.ShloMosaic

/-! ## Powers of two and their words -/

/-- A power of two. -/
def two (n : ℤ) : EReal := (((2 : ℝ) ^ n : ℝ) : EReal)

theorem two_le {a b : ℤ} (h : a ≤ b) : two a ≤ two b :=
  EReal.coe_le_coe_iff.2 (zpow_le_zpow_right₀ (by norm_num) h)

theorem two_mul (a b : ℤ) : two a * two b = two (a + b) := by
  rw [two, two, two, ← EReal.coe_mul, ← zpow_add₀ (by norm_num)]

theorem word_fields : ∀ w : Fin 255, ((BitVec.ofNat 32 w.val <<< 23).extractLsb' 31 1 == 1#1) = false
    ∧ ((BitVec.ofNat 32 w.val <<< 23).extractLsb' 23 8).toNat = w.val ∧ ((BitVec.ofNat 32 w.val <<< 23).extractLsb' 0 23).toNat = 0 := by
  decide +kernel

/-- A word with the sign clear and no fraction is the power of two of its exponent field. -/
theorem ieee_two (b : BitVec 32) (w : ℕ) (h1 : (b.extractLsb' 31 1 == 1#1) = false) (h2 : (b.extractLsb' 23 8).toNat = w) (h3 : (b.extractLsb' 0 23).toNat = 0)
    (h0 : w ≠ 0) (h255 : w ≠ 255) : Ideal.ieee 8 23 b = two (w - 127) := by
  unfold Ideal.ieee
  rw [h2, h3, if_neg (by simpa using h255), if_neg h0, show ((b.extractLsb' (8 + 23) 1 == 1#1) = false) from h1, two, EReal.coe_eq_coe_iff]
  norm_num
  rw [show (8388608 : ℝ) = (2 : ℝ) ^ (23 : ℤ) by norm_num, ← zpow_add₀ (by norm_num)]
  congr 1; ring

/-- The word whose exponent field is `w`, all else zero, is 2^(w − 127). -/
theorem word_two (w : Fin 255) (h : w.val ≠ 0) : Ideal.ofBits .f32 (BitVec.ofNat 32 w.val <<< 23) = two (w.val - 127) :=
  have hw := w.2
  ieee_two _ w.val (word_fields w).1 (word_fields w).2.1 (word_fields w).2.2 h (by omega)

/-- The exponent's two halves, biased and moved to the exponent field. -/
theorem halves : ∀ n : Fin 471,
    IntOp.shli ArithUnit.vector (IntOp.addi (IntOp.shrsi ArithUnit.vector (BitVec.ofInt 32 (n.val - 235)) 1#32) 127#32) 23#32 = BitVec.ofNat 32 ((n.val + 19) / 2) <<< 23
    ∧ IntOp.shli ArithUnit.vector (IntOp.addi (IntOp.subi (BitVec.ofInt 32 (n.val - 235)) (IntOp.shrsi ArithUnit.vector (BitVec.ofInt 32 (n.val - 235)) 1#32)) 127#32) 23#32
      = BitVec.ofNat 32 (n.val + 19 - (n.val + 19) / 2) <<< 23 := by
  decide +kernel

/-- The product of the two halves' words is the power of two. -/
theorem pow2_word (e : ℤ) (h : -235 ≤ e) (h' : e ≤ 235) :
    Ideal.ofBits .f32 (IntOp.shli ArithUnit.vector (IntOp.addi (IntOp.shrsi ArithUnit.vector (BitVec.ofInt 32 e) 1#32) 127#32) 23#32)
      * Ideal.ofBits .f32 (IntOp.shli ArithUnit.vector (IntOp.addi (IntOp.subi (BitVec.ofInt 32 e) (IntOp.shrsi ArithUnit.vector (BitVec.ofInt 32 e) 1#32)) 127#32) 23#32)
      = two e := by
  obtain ⟨n, rfl⟩ : ∃ n : ℕ, e = n - 235 := ⟨(e + 235).toNat, by omega⟩
  have hn : n < 471 := by omega
  obtain ⟨h1, h2⟩ := halves ⟨n, hn⟩
  rw [h1, h2]
  refine (congrArg₂ _ (word_two ⟨(n + 19) / 2, by omega⟩ (by simp only; omega)) (word_two ⟨n + 19 - (n + 19) / 2, by omega⟩ (by simp only; omega))).trans ?_
  rw [two_mul]
  congr 1
  push_cast
  omega

theorem neg_word : ∀ n : Fin 471, IntOp.subi 0#32 (BitVec.ofInt 32 (n.val - 235)) = BitVec.ofInt 32 (-(n.val - 235)) := by decide +kernel

theorem neg_ofInt (e : ℤ) (h : -235 ≤ e) (h' : e ≤ 235) : IntOp.subi 0#32 (BitVec.ofInt 32 e) = BitVec.ofInt 32 (-e) := by
  obtain ⟨n, rfl⟩ : ∃ n : ℕ, e = n - 235 := ⟨(e + 235).toNat, by omega⟩
  exact neg_word ⟨n, by omega⟩

theorem lane_word : ∀ k : Fin 384, IntOp.subi (BitVec.ofNat 32 k.val) 149#32 = BitVec.ofInt 32 (k.val - 149) := by decide +kernel
theorem lane_int : ∀ k : Fin 384, (IntOp.subi (BitVec.ofNat 32 k.val) 149#32).toInt = k.val - 149 := by decide +kernel

/-! ## How many powers of two there are up to a value -/

/-- The powers of two from 2⁻¹⁴⁹ to 2²³⁴. -/
abbrev thr (k : Fin 384) : EReal := two (k.val - 149)

def count (a : EReal) : ℕ := (Finset.univ.filter fun k : Fin 384 => thr k ≤ a).card

theorem count_le (a : EReal) : count a ≤ 384 := by
  exact (Finset.card_le_univ _).trans (by simp)

/-- They are the lowest: the powers are in order. -/
theorem thr_le_iff (a : EReal) (k : Fin 384) : thr k ≤ a ↔ k.val < count a := by
  have low : ∀ i j : Fin 384, i ≤ j → thr j ≤ a → thr i ≤ a := fun i j h hj =>
    (two_le (by have : i.val ≤ j.val := h; omega)).trans hj
  constructor
  · intro h
    have : Finset.Iic k ⊆ Finset.univ.filter fun k : Fin 384 => thr k ≤ a := fun i hi =>
      Finset.mem_filter.2 ⟨Finset.mem_univ _, low i k (Finset.mem_Iic.1 hi) h⟩
    have := Finset.card_le_card this
    rw [Fin.card_Iic] at this
    exact this
  · intro h
    by_contra hk
    have : (Finset.univ.filter fun k : Fin 384 => thr k ≤ a) ⊆ Finset.Iio k := fun i hi =>
      Finset.mem_Iio.2 (not_le.1 fun hki => hk (low k i hki (Finset.mem_filter.1 hi).2))
    have := Finset.card_le_card this
    rw [Fin.card_Iio] at this
    unfold count at h
    omega

/-- Counting in words. -/
theorem fold_count {ι : Type} [DecidableEq ι] (p : ι → Prop) [DecidablePred p] (S : Finset ι) :
    Finset.fold IntOp.addi (0#32) (fun x => BitVec.setWidth 32 (BitVec.ofBool (decide (p x)))) S = BitVec.ofNat 32 (S.filter p).card := by
  induction S using Finset.induction_on with
  | empty => rfl
  | insert a S ha ih =>
    rw [Finset.fold_insert ha, ih, Finset.filter_insert]
    by_cases h : p a
    · rw [if_pos h, Finset.card_insert_of_notMem (fun hm => ha (Finset.mem_filter.1 hm).1), add_comm, BitVec.ofNat_add, decide_eq_true h]
      rfl
    · rw [if_neg h, decide_eq_false h]
      show _ + _ = _
      simp

/-! ## The scale's exponent -/

/-- The factor that the largest |dy| is multiplied by. -/
abbrev recip : EReal := Ideal.ofBits .f32 0x37924925#32

theorem inf_word : Ideal.ofBits .f32 0x7F800000#32 = ⊤ := by simp [Ideal.ofBits, Ideal.ieee]
theorem neginf_word : Ideal.ofBits .f32 0xFF800000#32 = ⊥ := by simp [Ideal.ofBits, Ideal.ieee]
theorem neginf_word16 : Ideal.ofBits .bf16 0xFF80#16 = ⊥ := by simp [Ideal.ofBits, Ideal.ieee]
theorem top_word : Ideal.ofBits .f32 0x436B0000#32 = ((235 : ℝ) : EReal) := by
  simp [Ideal.ofBits, Ideal.ieee, -EReal.coe_mul]; norm_num

/-- The exponent from the largest |dy|. -/
def expo (M : EReal) : ℤ := if M = 0 then 0 else if 0 < M * recip ∧ M * recip < ⊤ then count (M * recip) - 149 else 0

theorem expo_low (M : EReal) : -149 ≤ expo M := by unfold expo; split_ifs <;> omega
theorem expo_high (M : EReal) : expo M ≤ 235 := by have := count_le (M * recip); unfold expo; split_ifs <;> omega

theorem count_word (n : ℕ) (h : n ≤ 384) : IntOp.subi (BitVec.ofNat 32 n) 149#32 = BitVec.ofInt 32 (n - 149) :=
  (by decide +kernel : ∀ n : Fin 385, IntOp.subi (BitVec.ofNat 32 n.val) 149#32 = BitVec.ofInt 32 (n.val - 149)) ⟨n, by omega⟩

/-- The kernel's exponent: the count, less 149, chosen by the kernel's tests. -/
theorem kernel_expo (M : EReal) :
    (if M = 0 then 0#32 else Scalar.select (IntOp.andi (BitVec.ofBool (decide (0 < M * recip))) (BitVec.ofBool (decide (M * recip < Ideal.ofBits .f32 0x7F800000#32))))
      (IntOp.subi (BitVec.ofNat 32 (count (M * recip))) 149#32) 0#32) = BitVec.ofInt 32 (expo M) := by
  rw [inf_word, count_word _ (count_le _)]
  unfold expo
  by_cases h : M = 0
  · rw [if_pos h, if_pos h]; rfl
  · rw [if_neg h, if_neg h]
    by_cases h1 : 0 < M * recip <;> by_cases h2 : M * recip < ⊤ <;> simp [h1, h2, Scalar.select, IntOp.andi]

/-- The least exponent whose power is above the value, 235 if none is. -/
theorem least_above (a : EReal) :
    Finset.fold min (⊤ : EReal) (fun k : Fin 384 => if a < thr k then (((k.val - 149 : ℤ) : ℝ) : EReal) else ((235 : ℝ) : EReal)) Finset.univ
      = (((count a - 149 : ℤ) : ℝ) : EReal) := by
  have hc := count_le a
  refine le_antisymm ?_ ?_
  · rcases Nat.lt_or_ge (count a) 384 with h | h
    · refine ((Finset.le_fold_min _).1 le_rfl).2 ⟨count a, h⟩ (Finset.mem_univ _) |>.trans ?_
      rw [if_pos (not_le.1 fun hl => lt_irrefl _ ((thr_le_iff a ⟨count a, h⟩).1 hl))]
    · refine ((Finset.le_fold_min _).1 le_rfl).2 0 (Finset.mem_univ _) |>.trans ?_
      rw [if_neg (not_lt.2 ((thr_le_iff a 0).2 (by simp; omega))), show count a = 384 by omega]
      norm_num
  · refine (Finset.le_fold_min _).2 ⟨le_top, fun k _ => ?_⟩
    have hk := k.2
    split_ifs with h
    · have : ¬ k.val < count a := fun h' => absurd ((thr_le_iff a k).2 h') (not_le.2 h)
      rw [EReal.coe_le_coe_iff, Int.cast_le]
      omega
    · rw [show (235 : ℝ) = ((235 : ℤ) : ℝ) by norm_num, EReal.coe_le_coe_iff, Int.cast_le]
      omega

/-- The exponent that the reference takes from the least power above the value. -/
theorem reference_expo (M : EReal) :
    (if M = 0 then (0 : EReal) else Scalar.select (Scalar.andi (BitVec.ofBool (decide (0 < M * recip))) (BitVec.ofBool (decide (M * recip < Ideal.ofBits .f32 0x7F800000#32))))
      (((count (M * recip) - 149 : ℤ) : ℝ) : EReal) 0) = ((expo M : ℝ) : EReal) := by
  rw [inf_word]
  unfold expo
  by_cases h : M = 0
  · rw [if_pos h, if_pos h]; simp
  · rw [if_neg h, if_neg h]
    by_cases h1 : 0 < M * recip <;> by_cases h2 : M * recip < ⊤ <;> simp [h1, h2, Scalar.select, Scalar.andi, IntOp.andi]

theorem exp2_int (n : ℤ) : Ideal.exp2 ((n : ℝ) : EReal) = two n := by
  rw [Ideal.exp2_coe, two]
  exact congrArg _ (Real.rpow_intCast 2 n)

theorem exp2_neg_int (n : ℤ) : Ideal.exp2 (0 - ((n : ℝ) : EReal)) = two (-n) := by
  rw [zero_sub, ← EReal.coe_neg, ← Int.cast_neg, exp2_int]

end Cert.Exponent

end
-- ==== Proof.Spec.lean ====
/- What the program computes, written over whole arrays at the extended reals. -/
module

public import proofs.«01_k».proof.Proof.Exponent

@[expose] public section

noncomputable section

namespace Cert.Spec

open Idealize.ShloMosaic Cert.Exponent

abbrev Tokens : Shape := ⟨3, ![4, 1024, 2560]⟩

/-- The largest |dy|. -/
def amax (dy : FVec Ideal Tokens .bf16) : EReal := ⨆ i, FloatOps.absf (F := Ideal) (φ := .bf16) (dy i)

theorem amax_le (dy : FVec Ideal Tokens .bf16) (u : EReal) : amax dy ≤ u ↔ ∀ i, FloatOps.absf (F := Ideal) (φ := .bf16) (dy i) ≤ u := iSup_le_iff

/-- The scale and its inverse. -/
def scale (dy : FVec Ideal Tokens .bf16) : EReal := two (expo (amax dy))
def inv (dy : FVec Ideal Tokens .bf16) : EReal := two (-expo (amax dy))

/-- The codes: dy over the scale, clipped. -/
def codes (dy : FVec Ideal Tokens .bf16) : FVec Ideal Tokens .fp8e5m2 := fun i =>
  min (Ideal.ofBits .f32 0x47600000#32) (max (Ideal.ofBits .f32 0xC7600000#32) (dy i * inv dy))

/-- The gradient: what was accumulated, and the codes' product summed over the tokens, scaled back. -/
def grad (x : FVec Ideal ⟨3, ![4, 1024, 8192]⟩ .fp8e4m3) (xs : FVec Ideal ⟨0, ![]⟩ .f32) (dy : FVec Ideal Tokens .bf16)
    (acc : FVec Ideal ⟨2, ![8192, 2560]⟩ .f32) : FVec Ideal ⟨2, ![8192, 2560]⟩ .f32 := fun j =>
  acc (ix2 (j 0) (j 1)) + (∑ b : Fin 4, ∑ s : Fin 1024, x (ix3 b s (j 0)) * codes dy (ix3 b s (j 1))) * (xs ix0 * scale dy)

/-- A sum over all tokens is one over the batches and their tokens. -/
theorem sum_tokens (f : Fin 4096 → EReal) : ∑ k, f k = ∑ b : Fin 4, ∑ s : Fin 1024, f ⟨b.val * 1024 + s.val, by omega⟩ := by
  rw [← Fintype.sum_prod_type' (f := fun (b : Fin 4) (s : Fin 1024) => f ⟨b.val * 1024 + s.val, by omega⟩)]
  refine (Fintype.sum_equiv (finProdFinEquiv (m := 4) (n := 1024)) _ _ fun x => ?_).symm
  congr 1
  ext
  simp [finProdFinEquiv]; omega

end Cert.Spec

end
-- ==== Proof.AmaxRegion.lean ====
/- The first call of the program: the largest |dy| of each column, carried in the scratch from block to block, and at the last block the scale and its inverse.
   Stated for any contents `V` that the region finds. What the scratch holds after point `n` is `colMax V c n`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pipeline.ValueKit
public import Idealize.ShloMosaic.Lib.Pipeline.ReadBack
public import Idealize.ShloMosaic.Lib.VecWindow

@[expose] public section

set_option maxRecDepth 16384

noncomputable section

namespace Cert.KernelIdeal.Amax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## When the body's branches are taken -/

/-- The first branch's condition, -/
abbrev atFirst (i : grid0.Coords) : Prop := (Scalar.cmpi .ne (Scalar.extui (Scalar.cmpi .eq (BitVec.ofNat 32 (i 0).val) 0#32)) 0#32) = 1#1
/-- the second's, -/
abbrev atLater (i : grid0.Coords) : Prop := (Scalar.cmpi .ne (Scalar.extui (Scalar.cmpi .sgt (BitVec.ofNat 32 (i 0).val) 0#32)) 0#32) = 1#1
/-- and the third's. -/
abbrev atLast (i : grid0.Coords) : Prop := k0_cond3 i = 1#1

theorem first_iff : ∀ t : Fin cfg0.N, atFirst (grid0.coords t) ↔ t.val = 0 :=
  (by decide +kernel : ∀ t : Fin grid0.N, atFirst (grid0.coords t) ↔ t.val = 0)
theorem later_iff : ∀ t : Fin cfg0.N, atLater (grid0.coords t) ↔ t.val ≠ 0 :=
  (by decide +kernel : ∀ t : Fin grid0.N, atLater (grid0.coords t) ↔ t.val ≠ 0)
theorem last_iff : ∀ t : Fin cfg0.N, atLast (grid0.coords t) ↔ t.val = 7 :=
  (by decide +kernel : ∀ t : Fin grid0.N, atLast (grid0.coords t) ↔ t.val = 7)

/-- The outputs are stored into at the last point only, and written back there only. -/
theorem idle_iff : ∀ t : Fin cfg0.N, cfg0.idle 0 (grid0.coords t) = false
    ∧ (t.val = 7 → cfg0.idle 1 (grid0.coords t) = false ∧ cfg0.idle 2 (grid0.coords t) = false)
    ∧ (t.val ≠ 7 → (cfg0.idle 1 (grid0.coords t) = true ∧ (cfg0.win 1).flush t = false) ∧ cfg0.idle 2 (grid0.coords t) = true ∧ (cfg0.win 2).flush t = false) :=
  (by decide +kernel : ∀ t : Fin grid0.N, _)

/-! ## The body, case by case -/

section Body

variable (c : Dev nD) (i : grid0.Coords) (arg1 : Memref sig .tc .vmem S512x2560 .bf16) (harg1 : arg1.IsWhole) (arg2 : Memref sig .tc .vmem S1x1 .f32) (harg2 : arg2.IsWhole)
  (arg3 : Memref sig .tc .vmem S1x1 .f32) (harg3 : arg3.IsWhole) (arg4 : Memref sig .tc .vmem S1x2560 .bf16) (harg4 : arg4.IsWhole)
  (x : Vec F S512x2560 .bf16) (s : Vec F S1x2560 .bf16) (d1 d2 : Vec F S1x1 .f32)

/-- A store of the whole buffer, read back. -/
theorem read_store {S : Shape} {e : EltTy} {sp : Space} (m : Memref sig .tc sp S e) (f : m.view.ty.Contents (Elt F)) {off : Fin S.rank → ℕ} (inb : ∀ a, off a + S.size a ≤ S.size a)
    (w : Vec F S e) :
    m.view.read (Elt F) (m.view.writes (Elt F) f [⟨Rect.unit off S.size inb, w⟩]) = w :=
  View.read_writes_full m.view f inb w []

/-- A load of the whole buffer reads what it holds. -/
theorem load_whole {S : Shape} {e : EltTy} {sp : Space} (m : Memref sig .tc sp S e) (h : m.IsWhole) {off : Fin S.rank → ℕ} (inb : ∀ a, off a + S.size a ≤ S.size a) (w : Vec F S e) :
    m.view.readAt (Elt F) (Rect.unit off S.size inb).toLoadRect (h.unread w) = w := by
  rw [View.readAt_full]; exact h.read_unread w

/-- At the first point the scratch is set to the block's column maxima. -/
theorem body_first (E : Set ℕ) (K : PUnit → sProp (MT nD τ sig Unit (Elt F) ℕ (UR sig nD τ) ℕ)) (h1 : atFirst i) (h2 : ¬ atLater i) (h3 : ¬ atLast i) :
    iprop(owns (c : Thread nD τ) arg1 fullShare x ∗ owns (c : Thread nD τ) arg2 fullShare d1 ∗ owns (c : Thread nD τ) arg3 fullShare d2 ∗ (∃ d, owns (c : Thread nD τ) arg4 fullShare d)
        ∗ (iprop(owns (c : Thread nD τ) arg1 fullShare x ∗ owns (c : Thread nD τ) arg2 fullShare d1 ∗ owns (c : Thread nD τ) arg3 fullShare d2 ∗ owns (c : Thread nD τ) arg4 fullShare (k0_pay2 x)) -∗ K ⟨⟩))
      ⊢ wp frame (wpE (defs₀ (F := F)) Variants.none c none) E (cc0_dy_amax i arg1 harg1 arg2 harg2 arg3 harg3 arg4 harg4) K := by
  simp only [cc0_dy_amax_eq_skeleton]; unfold cc0_dy_amax_skel
  simp only [k0_part1_eq_skeleton]
  unfold owns
  iintro ⟨⟨%f0, %hf0, H0⟩, H1, H2, ⟨%e3, %f3, -, H3⟩, Hk⟩
  obtain rfl := harg1.eq_unread hf0
  sl_exec (disch := first | sl_exact h1 | sl_exact h2 | sl_exact h3)
  sl_step
  iapply Hk
  isplitl [H0]
  · iexists _; isplitr; · ipureintro; exact harg1.read_unread _
    iexact H0
  isplitl [H1]; · iexact H1
  isplitl [H2]; · iexact H2
  iexists _; isplitr
  swap; · iexact H3
  ipureintro

  refine (read_store arg4 _ _ _).trans ?_
  rw [load_whole arg1 harg1]

/-- At a point in between it takes the larger of what it held and the block's column maxima. -/
theorem body_later (E : Set ℕ) (K : PUnit → sProp (MT nD τ sig Unit (Elt F) ℕ (UR sig nD τ) ℕ)) (h1 : ¬ atFirst i) (h2 : atLater i) (h3 : ¬ atLast i) :
    iprop(owns (c : Thread nD τ) arg1 fullShare x ∗ owns (c : Thread nD τ) arg2 fullShare d1 ∗ owns (c : Thread nD τ) arg3 fullShare d2 ∗ owns (c : Thread nD τ) arg4 fullShare s
        ∗ (iprop(owns (c : Thread nD τ) arg1 fullShare x ∗ owns (c : Thread nD τ) arg2 fullShare d1 ∗ owns (c : Thread nD τ) arg3 fullShare d2 ∗ owns (c : Thread nD τ) arg4 fullShare (k0_pay3 x s)) -∗ K ⟨⟩))
      ⊢ wp frame (wpE (defs₀ (F := F)) Variants.none c none) E (cc0_dy_amax i arg1 harg1 arg2 harg2 arg3 harg3 arg4 harg4) K := by
  simp only [cc0_dy_amax_eq_skeleton]; unfold cc0_dy_amax_skel
  simp only [k0_part1_eq_skeleton]
  unfold owns
  iintro ⟨⟨%f0, %hf0, H0⟩, H1, H2, ⟨%f3, %hf3, H3⟩, Hk⟩
  obtain rfl := harg1.eq_unread hf0; obtain rfl := harg4.eq_unread hf3
  sl_exec (disch := first | sl_exact h1 | sl_exact h2 | sl_exact h3)
  sl_step
  iapply Hk
  isplitl [H0]
  · iexists _; isplitr; · ipureintro; exact harg1.read_unread _
    iexact H0
  isplitl [H1]; · iexact H1
  isplitl [H2]; · iexact H2
  iexists _; isplitr
  swap; · iexact H3
  ipureintro

  refine (read_store arg4 _ _ _).trans ?_
  rw [load_whole arg1 harg1, load_whole arg4 harg4]

/-- At the last point it does so too, and the scale and its inverse are stored. -/
theorem body_last (E : Set ℕ) (K : PUnit → sProp (MT nD τ sig Unit (Elt F) ℕ (UR sig nD τ) ℕ)) (h1 : ¬ atFirst i) (h2 : atLater i) (h3 : atLast i) :
    iprop(owns (c : Thread nD τ) arg1 fullShare x ∗ (∃ d, owns (c : Thread nD τ) arg2 fullShare d) ∗ (∃ d, owns (c : Thread nD τ) arg3 fullShare d) ∗ owns (c : Thread nD τ) arg4 fullShare s
        ∗ (iprop(owns (c : Thread nD τ) arg1 fullShare x ∗ owns (c : Thread nD τ) arg2 fullShare (k0_pay4 (k0_pay6 (k0_pay3 x s)) k0_pay7)
            ∗ owns (c : Thread nD τ) arg3 fullShare (k0_pay5 (k0_pay6 (k0_pay3 x s))) ∗ owns (c : Thread nD τ) arg4 fullShare (k0_pay3 x s)) -∗ K ⟨⟩))
      ⊢ wp frame (wpE (defs₀ (F := F)) Variants.none c none) E (cc0_dy_amax i arg1 harg1 arg2 harg2 arg3 harg3 arg4 harg4) K := by
  simp only [cc0_dy_amax_eq_skeleton]; unfold cc0_dy_amax_skel
  simp only [k0_part1_eq_skeleton]
  unfold owns
  iintro ⟨⟨%f0, %hf0, H0⟩, ⟨%e1, %f1, -, H1⟩, ⟨%e2, %f2, -, H2⟩, ⟨%f3, %hf3, H3⟩, Hk⟩
  obtain rfl := harg1.eq_unread hf0; obtain rfl := harg4.eq_unread hf3
  sl_exec (disch := first | sl_exact h1 | sl_exact h2 | sl_exact h3)
  sl_step
  iapply Hk
  isplitl [H0]
  · iexists _; isplitr; · ipureintro; exact harg1.read_unread _
    iexact H0
  isplitl [H1]
  · iexists _; isplitr
    swap; · iexact H1
    ipureintro

    refine (read_store arg2 _ _ _).trans ?_
    unfold body_last.sl.r body_last.sl.v14 body_last.sl.H3_1
    rw [View.readCov_full, load_whole arg1 harg1, load_whole arg4 harg4]
  isplitl [H2]
  · iexists _; isplitr
    swap; · iexact H2
    ipureintro
    refine (read_store arg3 _ _ _).trans ?_
    unfold body_last.sl.r body_last.sl.v14 body_last.sl.H3_1
    rw [View.readCov_full, load_whole arg1 harg1, load_whole arg4 harg4]
  iexists _; isplitr
  swap; · iexact H3
  ipureintro

  unfold body_last.sl.H3_1
  refine (read_store arg4 _ _ _).trans ?_
  rw [load_whole arg1 harg1, load_whole arg4 harg4]

end Body

/-! ## What the region holds point by point -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch after point `n`: each column's largest |dy| over the blocks up to `n`. -/
def colMax (c : Dev nD) : (n : ℕ) → n < cfg0.N → Vec F S1x2560 .bf16
  | 0, h => k0_pay2 (iblk V c 0 ⟨0, h⟩)
  | n + 1, h => k0_pay3 (iblk V c 0 ⟨n + 1, h⟩) (colMax c n (Nat.lt_of_succ_lt h))

/-- The scale and its inverse as computed from the scratch after point `n` (the last point's are the results). -/
def scaleAt (c : Dev nD) (n : ℕ) (h : n < cfg0.N) : Vec F S1x1 .f32 := k0_pay4 (k0_pay6 (colMax V c n h)) k0_pay7
def invAt (c : Dev nD) (n : ℕ) (h : n < cfg0.N) : Vec F S1x1 .f32 := k0_pay5 (k0_pay6 (colMax V c n h))

/-- The scratch as the kernel's operand. -/
abbrev scratch : Memref sig .tc .vmem S1x2560 .bf16 := Memref.whole cc0_scratch0

theorem rest_split (c : Dev nD) : ∃ R : sProp (MT nD τ sig Unit (Elt F) ℕ (UR sig nD τ) ℕ), (Pipeline.scopedRest spec0 c : sProp (MT nD τ sig Unit (Elt F) ℕ (UR sig nD τ) ℕ)) = iprop((∃ d, owns (c : Thread nD τ) scratch fullShare d) ∗ R) :=
  ⟨_, by rw [scopedRest0_eq]; simp only [scratch, owns_whole]; rfl⟩

/-- The scoped buffers that are neither this region's nor the scratch. -/
def Rest (c : Dev nD) : sProp (MT nD τ sig Unit (Elt F) ℕ (UR sig nD τ) ℕ) := (rest_split c).choose

theorem rest_eq (c : Dev nD) : (Pipeline.scopedRest spec0 c : sProp (MT nD τ sig Unit (Elt F) ℕ (UR sig nD τ) ℕ)) = iprop((∃ d, owns (c : Thread nD τ) scratch fullShare d) ∗ Rest c) := (rest_split c).choose_spec

/-- The invariant before point `n`: the scratch as the point before left it. -/
def Inv (c : Dev nD) : (n : ℕ) → n ≤ cfg0.N → sProp (MT nD τ sig Unit (Elt F) ℕ (UR sig nD τ) ℕ)
  | 0, _ => iprop(Pipeline.scopedRest spec0 c ∗ ∃ r, prngReg c r)
  | n + 1, h => iprop(owns (c : Thread nD τ) scratch fullShare (colMax V c n h) ∗ Rest c ∗ ∃ r, prngReg c r)

/-- The region's proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => scaleAt V c t.val t.isLt
    | ⟨2, _⟩ => invAt V c t.val t.isLt
  Φ t := Inv V c t.val (Nat.le_of_lt_succ t.isLt)
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = scaleAt V c t.val t.isLt := by dsimp only [dat]
theorem after_2 (c : Dev nD) (t : Fin cfg0.N) : (dat V c).after 2 t = invAt V c t.val t.isLt := by dsimp only [dat]

theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-! ## The body obligation -/

abbrev ms0 (t : Fin cfg0.N) : Memref sig .tc .vmem S512x2560 .bf16 := win0_0.stage (cfg0.slots t 0)
abbrev ms1 (t : Fin cfg0.N) : Memref sig .tc .vmem S1x1 .f32 := win0_1.stage (cfg0.slots t 1)
abbrev ms2 (t : Fin cfg0.N) : Memref sig .tc .vmem S1x1 .f32 := win0_2.stage (cfg0.slots t 2)

theorem leaves_0 (c : Dev nD) (t : Fin cfg0.N) : (dat V c).leavesExact 0 t = owns (c : Thread nD τ) (ms0 t) fullShare (iblk V c 0 t) := by
  unfold Dat.leavesExact; rw [(idle_iff t).1, after_0]

theorem leaves_1 (c : Dev nD) (t : Fin cfg0.N) (h : t.val = 7) : (dat V c).leavesExact 1 t = owns (c : Thread nD τ) (ms1 t) fullShare (scaleAt V c t.val t.isLt) := by
  rw [← after_1]; unfold Dat.leavesExact; rw [((idle_iff t).2.1 h).1]

theorem leaves_2 (c : Dev nD) (t : Fin cfg0.N) (h : t.val = 7) : (dat V c).leavesExact 2 t = owns (c : Thread nD τ) (ms2 t) fullShare (invAt V c t.val t.isLt) := by
  rw [← after_2]; unfold Dat.leavesExact; rw [((idle_iff t).2.1 h).2]

theorem Inv_castSucc (c : Dev nD) (t : Fin cfg0.N) : (dat V c).Φ t.castSucc = Inv V c t.val (Nat.le_of_lt t.isLt) := rfl
theorem Inv_succ (c : Dev nD) (t : Fin cfg0.N) :
    (dat V c).Φ t.succ = iprop(owns (c : Thread nD τ) scratch fullShare (colMax V c t.val t.isLt) ∗ Rest c ∗ ∃ r, prngReg c r) := rfl
theorem Inv_pos (c : Dev nD) (n : ℕ) (h : n ≤ cfg0.N) (hn : n ≠ 0) :
    Inv V c n h = iprop(owns (c : Thread nD τ) scratch fullShare (colMax V c (n - 1) (by omega)) ∗ Rest c ∗ ∃ r, prngReg c r) := by
  cases n with
  | zero => exact absurd rfl hn
  | succ n => rfl
theorem colMax_zero (c : Dev nD) (t : Fin cfg0.N) (h : t.val = 0) : colMax V c t.val t.isLt = k0_pay2 (iblk V c 0 t) := by
  obtain ⟨n, hn⟩ := t
  obtain rfl : n = 0 := h
  rfl
theorem colMax_pos (c : Dev nD) (t : Fin cfg0.N) (h : t.val ≠ 0) :
    colMax V c t.val t.isLt = k0_pay3 (iblk V c 0 t) (colMax V c (t.val - 1) (Nat.lt_of_le_of_lt (Nat.sub_le _ _) t.isLt)) := by
  obtain ⟨n, hn⟩ := t
  cases n with
  | zero => exact absurd rfl h
  | succ n => rfl

/-- What the body is called with at point `t`, and what it returns. -/
def bodyPre (c : Dev nD) (t : Fin cfg0.N) : sProp (MT nD τ sig Unit (Elt F) ℕ (UR sig nD τ) ℕ) :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))
def bodyPost (c : Dev nD) (t : Fin cfg0.N) : sProp (MT nD τ sig Unit (Elt F) ℕ (UR sig nD τ) ℕ) :=
  iprop((dat V c).Φ t.succ ∗ (dat V c).owesAt () t.succ
    ∗ (dat V c).leavesExact 0 t ∗ (dat V c).leavesExact 1 t ∗ (dat V c).leavesExact 2 t)

set_option maxHeartbeats 1000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).owesAt () t.succ = (dat V c).owesAt () t.castSucc from rfl, Inv_succ, Inv_castSucc, leaves_0]
  have hlive := (idle_iff t).2.2
  by_cases h0 : t.val = 0
  · have h7 : t.val ≠ 7 := by omega
    rw [Dat.leavesExact_idle (dat V c) 1 t (hlive h7).1.1 (hlive h7).1.2, Dat.leavesExact_idle (dat V c) 2 t (hlive h7).2.1 (hlive h7).2.2, colMax_zero V c t h0]
    rw [show Inv V c t.val (Nat.le_of_lt t.isLt) = iprop(Pipeline.scopedRest spec0 c ∗ ∃ r, prngReg c r) from by
      obtain ⟨n, hn⟩ := t; obtain rfl : n = 0 := h0; rfl, rest_eq]
    iintro ⟨⟨⟨HS, HR⟩, Hg⟩, Ho, ⟨%d0, H0⟩, ⟨%d1, H1⟩, ⟨%d2, H2⟩⟩
    iapply (body_first c (grid0.coords t) _ _ _ _ _ _ _ (Memref.isWhole_whole _) (iblk V c 0 t) _ _ Set.univ _ ((first_iff t).mpr h0) (fun h => (later_iff t).mp h h0) (fun h => h7 ((last_iff t).mp h)))
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexists _; iexact H1
    iexists _; iexact H2
  · rw [Inv_pos V c _ _ h0]
    by_cases h7 : t.val = 7
    · rw [leaves_1 V c t h7, leaves_2 V c t h7]
      unfold scaleAt invAt
      rw [colMax_pos V c t h0]
      iintro ⟨⟨HS, HR, Hg⟩, Ho, ⟨%d0, H0⟩, ⟨%d1, H1⟩, ⟨%d2, H2⟩⟩
      iapply (body_last c (grid0.coords t) _ _ _ _ _ _ _ (Memref.isWhole_whole _) (iblk V c 0 t) _ Set.univ _ (fun h => h0 ((first_iff t).mp h)) ((later_iff t).mpr h0) ((last_iff t).mpr h7))
      isplitl [H0]; · iexact H0
      isplitl [H1]; · iexists _; iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat V c) 1 t (hlive h7).1.1 (hlive h7).1.2, Dat.leavesExact_idle (dat V c) 2 t (hlive h7).2.1 (hlive h7).2.2, colMax_pos V c t h0]
      iintro ⟨⟨HS, HR, Hg⟩, Ho, ⟨%d0, H0⟩, ⟨%d1, H1⟩, ⟨%d2, H2⟩⟩
      iapply (body_later c (grid0.coords t) _ _ _ _ _ _ _ (Memref.isWhole_whole _) (iblk V c 0 t) _ _ _ Set.univ _ (fun h => h0 ((first_iff t).mp h)) ((later_iff t).mpr h0) (fun h => h7 ((last_iff t).mp h)))
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexists _; iexact H1
      iexists _; iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- The invariant before the first point is what the launch hands over, and after the last point it gives that back. -/
theorem hin (c : Dev nD) : iprop(Pipeline.scopedRest spec0 c ∗ ∃ r, prngReg c r) ⊢ (dat V c).Φ 0 := .rfl

theorem hout (c : Dev nD) : (dat V c).Φ (Fin.last cfg0.N) ⊢ iprop(Pipeline.scopedRest spec0 c ∗ ∃ r, prngReg c r) := by
  rw [show (dat V c).Φ (Fin.last cfg0.N) = Inv V c cfg0.N (le_refl _) from rfl, Inv_pos V c _ _ (by rw [show cfg0.N = 8 from N_0]; decide), rest_eq]
  iintro ⟨HS, HR, Hg⟩
  isplitl [HS HR]
  · isplitl [HS]
    · iexists _; iexact HS
    iexact HR
  iexact Hg

end Cert.KernelIdeal.Amax

end
-- ==== Proof.WholeRun.lean ====
/- The whole program's run: what each of its three calls leaves, the first call's record beside the other two, and every result read off the last contents.
   `outsC m` is what the calls leave, in the order they run. -/
module

public import proofs.«01_k».proof.Proof.AmaxRegion
public import proofs.«01_k».proof.Proof.Gen.Own.KernelIdeal.RegionsD
public import Idealize.ShloMosaic.Lib.Pipeline.RegionArrays

@[expose] public section

set_option maxRecDepth 16384

noncomputable section

namespace Cert.KernelIdeal.Whole

open Cert.KernelIdeal Cert.KernelIdeal.Gen Cert.KernelIdeal.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## What the calls leave -/

/-- The first call's entry contents. -/
abbrev Ve0 (m : (ℓ : Loc nD τ sig) → Buf (Elt F) ℓ) (c : Dev nD) (b : Ref sig .tc) : Buf (Elt F) ((c : Thread nD τ).loc b) := V1 m c (Proc.devRef .tc b)

/-- No call owes a transfer. -/
abbrev D₀ : Dev nD → CellTallies nD τ sig Unit := fun _ => 0

/-- The second call's and the third's proof data, from what the calls before them left. -/
abbrev dat1 (m : (ℓ : Loc nD τ sig) → Buf (Elt F) ℓ) (outs : Outs (F := F)) (c : Dev nD) : Dat τ (Elt F) Unit ℕ (UR sig nD τ) ℕ cfg1 c :=
  K1.dat Variants.none (Ve1 m outs) D₀ c
abbrev dat2 (m : (ℓ : Loc nD τ sig) → Buf (Elt F) ℓ) (outs : Outs (F := F)) (c : Dev nD) : Dat τ (Elt F) Unit ℕ (UR sig nD τ) ℕ cfg2 c :=
  K2.dat Variants.none (Ve2 m outs) D₀ c

/-- After the first call: the scale and its inverse. -/
def outsA (m : (ℓ : Loc nD τ sig) → Buf (Elt F) ℓ) : Outs (F := F) := fun _ r c =>
  Function.update (β := fun r : Ref sig .tc => Buf (Elt F) ((c : Thread nD τ).loc r))
    (Function.update (β := fun r : Ref sig .tc => Buf (Elt F) ((c : Thread nD τ).loc r)) (fun r => m ((c : Thread nD τ).loc r))
      main_v2_0 ((Amax.dat (Ve0 m) c).arrAt 1 cfg0.N)) main_v2_1 ((Amax.dat (Ve0 m) c).arrAt 2 cfg0.N) r
/-- After the second: the codes too. -/
def outsB (m : (ℓ : Loc nD τ sig) → Buf (Elt F) ℓ) : Outs (F := F) := fun j r c =>
  Function.update (β := fun r : Ref sig .tc => Buf (Elt F) ((c : Thread nD τ).loc r)) (fun r => outsA m j r c)
    main_v3 ((dat1 m (outsA m) c).arrAt 2 cfg1.N) r
/-- After the third: the gradient too. -/
def outsC (m : (ℓ : Loc nD τ sig) → Buf (Elt F) ℓ) : Outs (F := F) := fun j r c =>
  Function.update (β := fun r : Ref sig .tc => Buf (Elt F) ((c : Thread nD τ).loc r)) (fun r => outsB m j r c)
    main_v5 ((dat2 m (outsB m) c).arrAt 5 cfg2.N) r

variable (m : (ℓ : Loc nD τ sig) → Buf (Elt F) ℓ)

theorem outsC_main_v2_1 (j : ℕ) (c : Dev nD) : outsC m j main_v2_1 c = (Amax.dat (Ve0 m) c).arrAt 2 cfg0.N := by
  rw [outsC, Function.update_of_ne (by decide), outsB, Function.update_of_ne (by decide), outsA, Function.update_self]
theorem outsC_main_v2_0 (j : ℕ) (c : Dev nD) : outsC m j main_v2_0 c = (Amax.dat (Ve0 m) c).arrAt 1 cfg0.N := by
  rw [outsC, Function.update_of_ne (by decide), outsB, Function.update_of_ne (by decide), outsA, Function.update_of_ne (by decide), Function.update_self]
theorem outsA_eq (j : ℕ) (c : Dev nD) (r : Ref sig .tc) (h3 : r ≠ main_v3) (h5 : r ≠ main_v5) : outsA m j r c = outsC m j r c := by
  rw [outsC, Function.update_of_ne h5, outsB, Function.update_of_ne h3]
theorem outsB_eq (j : ℕ) (c : Dev nD) (r : Ref sig .tc) (h5 : r ≠ main_v5) : outsB m j r c = outsC m j r c := by
  rw [outsC, Function.update_of_ne h5]

theorem V2_A (c : Dev nD) : V2 m (outsA m) c = V2 m (outsC m) c := by
  simp only [V2, outsA_eq m 2 c main_v2_0 (by decide) (by decide), outsA_eq m 2 c main_v2_1 (by decide) (by decide)]
theorem V4_B (c : Dev nD) : V4 m (outsB m) c = V4 m (outsC m) c := by
  simp only [V4, V3, V2, outsB_eq m 2 c main_v2_0 (by decide), outsB_eq m 2 c main_v2_1 (by decide), outsB_eq m 3 c main_v3 (by decide)]
theorem Ve1_A : Ve1 m (outsA m) = Ve1 m (outsC m) := by funext c b; exact congrFun (V2_A m c) _
theorem Ve2_B : Ve2 m (outsB m) = Ve2 m (outsC m) := by funext c b; exact congrFun (V4_B m c) _

theorem outsC_main_v3 (j : ℕ) (c : Dev nD) : outsC m j main_v3 c = (dat1 m (outsC m) c).arrAt 2 cfg1.N := by
  rw [dat1, ← Ve1_A, outsC, Function.update_of_ne (by decide), outsB, Function.update_self]
theorem outsC_main_v5 (j : ℕ) (c : Dev nD) : outsC m j main_v5 c = (dat2 m (outsC m) c).arrAt 5 cfg2.N := by
  rw [dat2, ← Ve2_B, outsC, Function.update_self]

/-! ## Levels and the rest -/

/-- Every cell of a core has the one kind of wait, all at one level. -/
abbrev L : GSem nD τ sig → Finset Unit := fun g => if g.1.2 = .tc then {()} else ∅
abbrev lv : GSem nD τ sig → Unit → ℕ := fun _ _ => 0

theorem cut (p : Fin 3) : Pipeline.LevelCut (pcfgs (F := F)) adm () L lv p D₀ (fun _ => 0) where
  hι := fun _ _ _ => by simp [L]
  hιb := fun _ _ _ => le_refl _
  hD := fun _ _ _ h => absurd h (by simp [D₀])

/-- What rides beside the buffers between two items: the random-number register, and nothing owed. -/
abbrev rest : Fin 4 → Dev nD → sProp (MT nD τ sig Unit (Elt F) ℕ (UR sig nD τ) ℕ) := fun _ c => iprop((∃ r, prngReg c r) ∗ (∃ W, owes (c : Thread nD τ) (D₀ c) W) ∗ emp)

/-- The proof data of all three calls. -/
abbrev dats : (p : Fin 3) → (c : Dev nD) → Dat τ (Elt F) Unit ℕ (UR sig nD τ) ℕ (cfgs p) c
  := pdatsD m (outsC m) Variants.none (fun
    | ⟨0, _⟩ => fun c => Amax.dat (Ve0 m) c
    | ⟨1, _⟩ => fun c => dat1 m (outsC m) c
    | ⟨2, _⟩ => fun c => dat2 m (outsC m) c) D₀ D₀

/-! ## The first call's record -/

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem arr0_S : Pipeline.arrRefs (τ := τ) spec0 ⊆ Pipeline.ucRefs τ sig :=
  Pipeline.arrRefs_sub_ucRefs spec0 (by decide)
theorem V2_at_main_v2_1 (outs : Outs (F := F)) (c : Dev nD) : V2 m outs c (Proc.devRef .tc main_v2_1) = outs 2 main_v2_1 c := by
  simp only [V2, Function.update_self]
theorem V2_at_main_v2_0 (outs : Outs (F := F)) (c : Dev nD) : V2 m outs c (Proc.devRef .tc main_v2_0) = outs 2 main_v2_0 c := by
  simp only [V2]
  rw [Function.update_of_ne (StableHlo.devRef_ne_of_ne (by decide)), Function.update_self]

/-- Across the first call every other buffer keeps its contents. -/
theorem rest0_eq (outs : Outs (F := F)) (c : Dev nD) : ∀ b ∈ (Pipeline.ucRefs τ sig) \ Pipeline.arrRefs (τ := τ) spec0, V2 m outs c b = V1 m c b := fun b hb => by
  have hn : b ∉ Pipeline.arrRefs (τ := τ) spec0 := (Finset.mem_sdiff.mp hb).2
  have h0 : b ≠ Proc.devRef .tc main_v2_0 := by rintro rfl; exact hn (by first | exact arr0_mem 1 | decide)
  have h1 : b ≠ Proc.devRef .tc main_v2_1 := by rintro rfl; exact hn (by first | exact arr0_mem 2 | decide)
  simp only [V2, Function.update_of_ne h0, Function.update_of_ne h1]

set_option backward.isDefEq.respectTransparency.types false in
/-- The first call: its arrays held at `V1` in and at `V2` out. -/
def R0 : RegionSeg (pcfgs (F := F)) adm (dats m) () defs₀ Variants.none L lv 0 :=
  Pipeline.RegionSeg.ofHeld (pcfgs (F := F)) adm (dats m) () defs₀ Variants.none L lv 0 D₀
    (fun c => iprop(∃ r, prngReg c r)) (fun c => iprop(∃ r, prngReg c r))
    launch0.toP rfl
    (fun c => (Amax.body_obligation (Ve0 m) c).loose) (fun _ _ => rfl) (fun _ => rfl)
    (fun c => (dats m 0 c).share_full fun _ => rfl) (fun c => Amax.hin (Ve0 m) c) (fun c => Amax.hout (Ve0 m) c) (fun _ => 0) (cut 0)
    (fun c => iprop(StableHlo.held (c : Thread nD τ) ((Pipeline.ucRefs τ sig) \ Pipeline.arrRefs (τ := τ) spec0) (V1 m c) ∗ emp))
    (V1 m) (V2 m (outsC m)) (fun _ _ => rfl)
    (fun c => fun
      | 0 => ((dats m 0 c).arrAt_in 0 rfl _).trans ((Amax.A_eq (Ve0 m) c 0).trans (V2_of m (outsC m) c (Pipeline.arrRef spec0 0) (by decide)).symm)
      | 1 => (outsC_main_v2_0 m 2 c).symm.trans (V2_at_main_v2_0 m (outsC m) c).symm
      | 2 => (outsC_main_v2_1 m 2 c).symm.trans (V2_at_main_v2_1 m (outsC m) c).symm
      | ⟨_ + 3, h⟩ => absurd h (Nat.not_lt.2 (Nat.le_add_left _ _)))

theorem hpre0 (c : Dev nD) :
    iprop(StableHlo.held (c : Thread nD τ) (Pipeline.ucRefs τ sig) (V1 m c) ∗ rest (F := F) 0 c) ⊢ (R0 m).pre c := by
  show _ ⊢ iprop(StableHlo.held (c : Thread nD τ) (Pipeline.arrRefs (τ := τ) spec0) (V1 m c) ∗ (∃ r, prngReg c r)
    ∗ (StableHlo.held (c : Thread nD τ) ((Pipeline.ucRefs τ sig) \ Pipeline.arrRefs (τ := τ) spec0) (V1 m c) ∗ emp) ∗ ∃ W, owes (c : Thread nD τ) (D₀ c) W)
  rw [StableHlo.held_sub_split (c : Thread nD τ) arr0_S (V1 m c)]
  iintro ⟨⟨Ha, Hr⟩, Hp, HO, Hx⟩
  isplitl [Ha]; · iexact Ha
  isplitl [Hp]; · iexact Hp
  isplitl [Hr Hx]; · isplitl [Hr] <;> iassumption
  iexact HO

theorem hpost0 (c : Dev nD) :
    (R0 m).post c ⊢ iprop(StableHlo.held (c : Thread nD τ) (Pipeline.ucRefs τ sig) (V2 m (outsC m) c) ∗ rest (F := F) 1 c) := by
  show iprop(StableHlo.held (c : Thread nD τ) (Pipeline.arrRefs (τ := τ) spec0) (V2 m (outsC m) c) ∗ (∃ r, prngReg c r)
    ∗ (StableHlo.held (c : Thread nD τ) ((Pipeline.ucRefs τ sig) \ Pipeline.arrRefs (τ := τ) spec0) (V1 m c) ∗ emp) ∗ ∃ W, owes (c : Thread nD τ) (D₀ c) W) ⊢ _
  rw [StableHlo.held_sub_split (c : Thread nD τ) arr0_S (V2 m (outsC m) c),
    StableHlo.held_congr (c : Thread nD τ) (S := (Pipeline.ucRefs τ sig) \ Pipeline.arrRefs (τ := τ) spec0) (rest0_eq m (outsC m) c)]
  iintro ⟨Ha, Hp, ⟨Hr, Hx⟩, HO⟩
  isplitl [Ha Hr]; · isplitl [Ha] <;> iassumption
  isplitl [Hp]; · iexact Hp
  isplitl [HO]; · iexact HO
  iexact Hx

/-! ## The run -/

/-- The second call's record and the third's. -/
abbrev R1 : RegionSeg (pcfgs (F := F)) adm (dats m) () defs₀ Variants.none L lv 1 :=
  R1D m (outsC m) Variants.none L lv () _ D₀ D₀ (fun _ => 0) (cut 1) (fun _ => iprop(emp)) (fun c => outsC_main_v3 m 3 c)
abbrev R2 : RegionSeg (pcfgs (F := F)) adm (dats m) () defs₀ Variants.none L lv 2 :=
  R2D m (outsC m) Variants.none L lv () _ D₀ D₀ (fun _ => 0) (cut 2) (fun _ => iprop(emp)) (fun c => outsC_main_v5 m 5 c)

set_option backward.isDefEq.respectTransparency.types false in
/-- From any memory with zero counters the program ends, every counter at zero and every buffer outside the calls at `V6`. -/
theorem run_all (ρ : Dev nD → PrngReg) :
    θ_run defs (onTc (τ := τ) (main (F := F))) ⟨m, fun _ => 0, ρ⟩ (fun r => (∀ c : Dev nD,
      ∀ b ∈ Pipeline.ucRefs τ sig, r.2.mem ((c : Thread nD τ).1, b) = V6 m (outsC m) c b) ∧ r.2.sem = fun _ => 0) := by
  refine Pipeline.θ_run_regions_kit_dev_sems (pcfgs (F := F)) adm (dats m) () cellOf_inj emb₁ defs₀ Variants.none L lv m ρ main
    (segs m (outsC m) Variants.none L lv rest () (dats m) (R0 m) (R1 m) (R2 m))
    (fun c Q => by
      rewrite [main_chain c, Seg.run_eq_chain,
        show (segs m (outsC m) Variants.none L lv rest () (dats m) (R0 m) (R1 m) (R2 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) D₀ (fun g h => if_neg h) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (V0 m c) ∗ rest 0 c))
    (Tₙ := fun c => StableHlo.held (c : Thread nD τ) (Pipeline.ucRefs τ sig) (V6 m (outsC m) c))
    (hch := fun c => ⟨.rfl, hpre0 m c,
      (hpost0 m c).trans (hpre1D m (outsC m) Variants.none L lv () _ D₀ D₀ (fun _ => 0) (cut 1) rest _ (fun _ => .rfl) (fun c => outsC_main_v3 m 3 c) c),
      hpost1D m (outsC m) Variants.none L lv () _ D₀ D₀ (fun _ => 0) (cut 1) rest _ (fun _ => .rfl) (fun c => outsC_main_v3 m 3 c) c,
      hpre2D m (outsC m) Variants.none L lv () _ D₀ D₀ (fun _ => 0) (cut 2) rest _ (fun _ => .rfl) (fun c => outsC_main_v5 m 5 c) c,
      hpost2D m (outsC m) Variants.none L lv () _ D₀ D₀ (fun _ => 0) (cut 2) rest _ (fun _ => .rfl) (fun c => outsC_main_v5 m 5 c) c,
      sep_mono .rfl (by iintro ⟨-, HO, -⟩; iexact HO)⟩)
    (hinit := ?_) (QY := fun c s => ∀ b ∈ Pipeline.ucRefs τ sig, s.mem ((c : Thread nD τ).1, b) = V6 m (outsC m) c b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c : Thread nD τ) (Pipeline.ucRefs τ sig) (V0 m c)
        from Pipeline.unscopedBufs_held c (V0 m c)]
    iintro ⟨⟨Hh, -, HO, -, Hp, -⟩, -⟩
    imodintro
    isplitl [Hh]; · iexact Hh
    isplitl [Hp]; · iexists _; iexact Hp
    isplitl [HO]; · iexists ∅; iexact HO
    iempintro
  · unfold StableHlo.held
    iintro ⟨Hh, HSI⟩
    imodintro
    iapply (pointsTo_read_all (Pipeline.ucRefs τ sig) (fun b => ((c : Thread nD τ).1, b)) (V6 m (outsC m) c) s')
    isplitl [Hh] <;> iassumption

theorem uc (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs b, h⟩

/-- The frame: the arguments end as launched, every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c _ (uc main_arg0 (by decide))).trans (V6_main_arg0 m _ c),
     (h.1 c _ (uc main_arg1 (by decide))).trans (V6_main_arg1 m _ c),
     (h.1 c _ (uc main_arg2 (by decide))).trans (V6_main_arg2 m _ c),
     (h.1 c _ (uc main_arg3 (by decide))).trans (V6_main_arg3 m _ c)⟩, h.2⟩) (run_all m ρ)

end Cert.KernelIdeal.Whole

end
-- ==== Proof.Scale.lean ====
/- The first call of the program leaves the specification's scale and its inverse. -/
module

public import proofs.«01_k».proof.Proof.Spec
public import proofs.«01_k».proof.Proof.WholeRun
public import Idealize.ShloMosaic.Lib.Pointwise
public import Idealize.ShloMosaic.Lib.Claim

@[expose] public section

set_option maxRecDepth 16384

noncomputable section

namespace Cert.KernelIdeal.Whole

open Cert.KernelIdeal Cert.KernelIdeal.Gen Idealize.ShloMosaic Idealize.ShloMosaic.TcCoe Cert.Exponent

/-! ## The payloads -/

/-- The exponent as a word. -/
theorem expo_word (s : FVec Ideal S1x2560 .bf16) (M : EReal) (hM : Finset.fold max (Ideal.ofBits .f32 0xFF800000#32) (fun x : Fin 2560 => s (ix2 0 x)) Finset.univ = M) :
    k0_pay6 (F := Ideal) s (ix2 0 0) = BitVec.ofInt 32 (expo M) := by
  rw [← kernel_expo, ← hM]
  unfold Exponent.count
  rw [← fold_count]
  simp only [thr]
  have h : ∀ k : Fin 384, two (k.val - 149) = _ := fun k => (pow2_word (k.val - 149) (by omega) (by omega)).symm
  simp only [h, ← lane_word]
  pointwise [k0_pay6]
  done

theorem scale_word (s : IVec S1x1 32) (e : ℤ) (h : -149 ≤ e) (h' : e ≤ 235) (hs : s (ix2 0 0) = BitVec.ofInt 32 e) :
    k0_pay4 (F := Ideal) s k0_pay7 (ix2 0 0) = two e := by
  rw [← pow2_word e (by omega) h', ← hs]
  pointwise [k0_pay4, k0_pay7]
  done

theorem inv_word (s : IVec S1x1 32) (e : ℤ) (h : -149 ≤ e) (h' : e ≤ 235) (hs : s (ix2 0 0) = BitVec.ofInt 32 e) :
    k0_pay5 (F := Ideal) s (ix2 0 0) = two (-e) := by
  rw [← pow2_word (-e) (by omega) (by omega), ← neg_ofInt e (by omega) h', ← hs]
  pointwise [k0_pay5]
  done

theorem pay2_le (s : FVec Ideal S512x2560 .bf16) (j : Fin 2560) (u : EReal) :
    k0_pay2 (F := Ideal) s (ix2 0 j) ≤ u ↔ ∀ r : Fin 512, FloatOps.absf (F := Ideal) (φ := .bf16) (s (ix2 r j)) ≤ u := by
  have : k0_pay2 (F := Ideal) s (ix2 0 j) = Finset.fold max (Ideal.ofBits .bf16 0xFF80#16) (fun x : Fin 512 => FloatOps.absf (F := Ideal) (φ := .bf16) (s (ix2 x j))) Finset.univ := by
    pointwise [k0_pay2, k0_pay1]
    done
  rw [this, Finset.fold_max_le, neginf_word16]
  exact ⟨fun h r => h.2 r (Finset.mem_univ _), fun h => ⟨bot_le, fun r _ => h r⟩⟩

theorem pay3_eq (s : FVec Ideal S512x2560 .bf16) (t : FVec Ideal S1x2560 .bf16) (j : Fin 2560) :
    k0_pay3 (F := Ideal) s t (ix2 0 j) = max (t (ix2 0 j)) (k0_pay2 (F := Ideal) s (ix2 0 j)) := by
  pointwise [k0_pay3, k0_pay2, k0_pay1]
  done

/-! ## The maximum -/

variable (V : (c : Dev nD) → (b : Ref sig .tc) → Buf (Elt Ideal) ((c : Thread nD τ).loc b)) (c : Dev nD)

theorem colMax_le (u : EReal) (j : Fin 2560) (n : ℕ) (h : n < cfg0.N) :
    Amax.colMax V c n h (ix2 0 j) ≤ u
      ↔ ∀ t : Fin cfg0.N, t.val ≤ n → ∀ r : Fin 512, FloatOps.absf (F := Ideal) (φ := .bf16) (Amax.iblk V c 0 t (ix2 r j)) ≤ u := by
  induction n with
  | zero =>
    refine (pay2_le _ j u).trans ⟨fun hu t ht => ?_, fun hu => hu ⟨0, h⟩ le_rfl⟩
    obtain rfl : t = ⟨0, h⟩ := Fin.ext (Nat.le_zero.1 ht)
    exact hu
  | succ n ih =>
    rw [show Amax.colMax V c (n + 1) h (ix2 0 j) = _ from pay3_eq _ _ j, max_le_iff, ih, pay2_le]
    refine ⟨fun hu t ht => ?_, fun hu => ⟨fun t ht => hu t (by omega), hu ⟨n + 1, h⟩ le_rfl⟩⟩
    rcases Nat.lt_or_ge n t.val with hlt | hge
    · obtain rfl : t = ⟨n + 1, h⟩ := Fin.ext (by show t.val = n + 1; omega)
      exact hu.2
    · exact hu.1 t hge

end Cert.KernelIdeal.Whole

namespace Cert.KernelIdeal.Whole

open Cert.KernelIdeal Cert.KernelIdeal.Gen Idealize.ShloMosaic Idealize.ShloMosaic.TcCoe Cert.Exponent

variable (m : (ℓ : Loc nD τ sig) → Buf (Elt Ideal) ℓ) (c : Dev nD)

/-- The arguments, read on core `c`. -/
abbrev argX : FVec Ideal ⟨3, ![4, 1024, 8192]⟩ .fp8e4m3 := m ((c.tc : Thread nD τ).loc main_arg0)
abbrev argXs : FVec Ideal ⟨0, ![]⟩ .f32 := m ((c.tc : Thread nD τ).loc main_arg1)
abbrev argDy : FVec Ideal Spec.Tokens .bf16 := m ((c.tc : Thread nD τ).loc main_arg2)
abbrev argAcc : FVec Ideal ⟨2, ![8192, 2560]⟩ .f32 := m ((c.tc : Thread nD τ).loc main_arg3)

/-- The token view of x and of dy: token `k` is position `k % 1024` of batch `k / 1024`. -/
theorem x_read (k : Fin 4096) (i : Fin 8192) : Ve0 m c main_v0 (ix2 k i) = argX m c (ix3 ⟨k.val / 1024, by omega⟩ ⟨k.val % 1024, by omega⟩ i) := by
  show StableHlo.after hostOps0 (fun b => m (c, b)) (Proc.devRef .tc main_v0) (ix2 k i) = _
  simp only [hostOps0]
  after_results
  pointwise
  done

theorem dy_read (k : Fin 4096) (j : Fin 2560) : Ve0 m c main_v1 (ix2 k j) = argDy m c (ix3 ⟨k.val / 1024, by omega⟩ ⟨k.val % 1024, by omega⟩ j) := by
  show StableHlo.after hostOps0 (fun b => m (c, b)) (Proc.devRef .tc main_v1) (ix2 k j) = _
  simp only [hostOps0]
  after_results
  pointwise
  done

theorem idx0 : ∀ t : Fin cfg0.N, win0_0.index t = ![t.val, 0] ∧ win0_1.index t = ![0, 0] ∧ win0_2.index t = ![0, 0] :=
  (by decide +kernel : ∀ t : Fin grid0.N, _)

theorem block0 (t : Fin cfg0.N) (r : Fin 512) (j : Fin 2560) (k : Fin 4096) (hk : k.val = t.val * 512 + r.val) :
    Amax.iblk (Ve0 m) c 0 t (ix2 r j) = Ve0 m c main_v1 (ix2 k j) := by
  blk_point [Amax.iblk, idx0 t]
  done

/-- After the last point the largest of the columns' maxima is the maximum. -/
theorem lanes_max (h : 7 < cfg0.N) :
    Finset.fold max (Ideal.ofBits .f32 0xFF800000#32) (fun x : Fin 2560 => Amax.colMax (Ve0 m) c 7 h (ix2 0 x)) Finset.univ = Spec.amax (argDy m c) := by
  have hN : cfg0.N = 8 := N_0
  refine eq_of_forall_ge_iff fun u => ?_
  rw [Spec.amax_le, Finset.fold_max_le, neginf_word]
  refine ⟨fun hu i => ?_, fun hu => ⟨bot_le, fun j _ => (colMax_le _ c u j 7 h).2 fun t _ r => ?_⟩⟩
  · idx_vars i
    have hk := (colMax_le _ c u i2 7 h).1 (hu.2 i2 (Finset.mem_univ _)) ⟨(i0.val * 1024 + i1.val) / 512, by omega⟩ (by show _ / _ ≤ _; omega)
      ⟨(i0.val * 1024 + i1.val) % 512, by omega⟩
    rw [block0 m c _ _ i2 ⟨i0.val * 1024 + i1.val, by omega⟩ (by dsimp only; omega), dy_read] at hk
    convert hk using 4
    · ext; dsimp only; omega
    · ext; dsimp only; omega
  · have ht := t.2
    rw [block0 m c t r j ⟨t.val * 512 + r.val, by omega⟩ rfl, dy_read]
    exact hu _

theorem scale_last (n : ℕ) (h : n < cfg0.N) (hn : n = 7) : Amax.scaleAt (Ve0 m) c n h (ix2 0 0) = Spec.scale (argDy m c) := by
  subst hn
  exact scale_word _ _ (expo_low _) (expo_high _) (expo_word _ _ (lanes_max m c h))

theorem scale_val : (Amax.dat (Ve0 m) c).arrAt 1 cfg0.N = fun _ => Spec.scale (argDy m c) := by
  refine (Amax.dat (Ve0 m) c).arrAt_eq_of_covers 1 _ (by decide +kernel) fun t hf y => ?_
  have h7 : t.val = 7 := by_contra fun h => by have := ((Amax.idle_iff t).2.2 h).1.2; rw [hf] at this; exact absurd this (by decide)
  blk_simp
  rw [Amax.after_1]
  idx_vars y
  obtain rfl : y0 = 0 := Subsingleton.elim _ _
  obtain rfl : y1 = 0 := Subsingleton.elim _ _
  exact scale_last m c _ _ h7

theorem inv_last (n : ℕ) (h : n < cfg0.N) (hn : n = 7) : Amax.invAt (Ve0 m) c n h (ix2 0 0) = Spec.inv (argDy m c) := by
  subst hn
  exact inv_word _ _ (expo_low _) (expo_high _) (expo_word _ _ (lanes_max m c h))

theorem inv_val : (Amax.dat (Ve0 m) c).arrAt 2 cfg0.N = fun _ => Spec.inv (argDy m c) := by
  refine (Amax.dat (Ve0 m) c).arrAt_eq_of_covers 2 _ (by decide +kernel) fun t hf y => ?_
  have h7 : t.val = 7 := by_contra fun h => by have := ((Amax.idle_iff t).2.2 h).2.2; rw [hf] at this; exact absurd this (by decide)
  blk_simp
  rw [Amax.after_2]
  idx_vars y
  obtain rfl : y0 = 0 := Subsingleton.elim _ _
  obtain rfl : y1 = 0 := Subsingleton.elim _ _
  exact inv_last m c _ _ h7

end Cert.KernelIdeal.Whole

end
-- ==== Proof.Calls.lean ====
/- What the second and the third call leave, entry by entry, for any contents that they find. -/
module

public import proofs.«01_k».proof.Proof.Scale

@[expose] public section

set_option maxRecDepth 16384

noncomputable section

namespace Cert.KernelIdeal.Whole

open Cert.KernelIdeal Cert.KernelIdeal.Gen Cert.KernelIdeal.Own Idealize.ShloMosaic Idealize.ShloMosaic.TcCoe Cert.Exponent
open Idealize.ShloMosaic.Pipeline (Dat)
open Idealize.ShloMosaic.Rounds Idealize.SL.RA

/-! ## The second and third call, over any contents `V` that they find -/

section Calls

variable (V : (c : Dev nD) → (b : Ref sig .tc) → Buf (Elt Ideal) ((c : Thread nD τ).loc b)) (c : Dev nD)

theorem idx1 : ∀ t : Fin cfg1.N, win1_0.index t = ![0, 0] ∧ win1_1.index t = ![t.val, 0] ∧ win1_2.index t = ![t.val, 0] :=
  (by decide +kernel : ∀ t : Fin grid1.N, _)

theorem idx2 : ∀ t : Fin cfg2.N, win2_0.index t = ![0, 0] ∧ win2_1.index t = ![0, 0] ∧ win2_2.index t = ![0, t.val] ∧ win2_3.index t = ![0, 0]
    ∧ win2_4.index t = ![t.val, 0] ∧ win2_5.index t = ![t.val, 0] :=
  (by decide +kernel : ∀ t : Fin grid2.N, _)

abbrev run1 : Dat τ (Elt Ideal) Unit ℕ (UR sig nD τ) ℕ cfg1 c := K1.dat Variants.none V D₀ c
abbrev run2 : Dat τ (Elt Ideal) Unit ℕ (UR sig nD τ) ℕ cfg2 c := K2.dat Variants.none V D₀ c

/-- The second call's array, entry by entry. -/
def quantised (dy : FVec Ideal S4096x2560 .bf16) (inv : FVec Ideal S1x1 .f32) : FVec Ideal S4096x2560 .fp8e5m2 := fun i =>
  min (Ideal.ofBits .f32 0x47600000#32) (max (Ideal.ofBits .f32 0xC7600000#32) (dy (ix2 (i 0) (i 1)) * inv (ix2 0 0)))

theorem call1 : (run1 V c).arrAt 2 cfg1.N = quantised (V c main_v1) (V c main_v2_1) := by
  refine (run1 V c).arrAt_eq_of_covers 2 _ (by decide +kernel) fun t hf y => ?_
  blk_simp
  rw [K1.after1_2]
  unfold K1.outsAt1
  frame_out
  idx_vars y
  pointwise [k1_pay1, quantised]
  blk_point [K1.iblk, idx1 t]
  done

/-- The third call's array, entry by entry. -/
def product (xs ds : FVec Ideal S1x1 .f32) (x : FVec Ideal S4096x8192 .fp8e4m3) (q : FVec Ideal S4096x2560 .fp8e5m2) (acc : FVec Ideal S8192x2560 .f32) : FVec Ideal S8192x2560 .f32 :=
  fun j => acc (ix2 (j 0) (j 1)) + (∑ k : Fin 4096, x (ix2 k (j 0)) * q (ix2 k (j 1))) * (xs (ix2 0 0) * ds (ix2 0 0))

theorem call2 : (run2 V c).arrAt 5 cfg2.N = product (V c main_v4) (V c main_v2_0) (V c main_v0) (V c main_v3) (V c main_arg3) := by
  refine (run2 V c).arrAt_eq_of_covers 5 _ (by decide +kernel) fun t hf y => ?_
  blk_simp
  rw [K2.after2_5]
  unfold K2.outsAt2
  frame_out
  idx_vars y
  pointwise [k2_pay1, product]
  blk_point [K2.iblk, idx2 t]
  done

end Calls

end Cert.KernelIdeal.Whole

end
-- ==== Proof.Values.lean ====
/- The second call leaves the specification's codes, the third its gradient; and what the program returns. -/
module

public import proofs.«01_k».proof.Proof.Calls

@[expose] public section

set_option maxRecDepth 16384

noncomputable section

namespace Cert.KernelIdeal.Whole

open Cert.KernelIdeal Cert.KernelIdeal.Gen Cert.KernelIdeal.Own Idealize.ShloMosaic Idealize.ShloMosaic.TcCoe Cert.Exponent

variable (m : (ℓ : Loc nD τ sig) → Buf (Elt Ideal) ℓ) (c : Dev nD)

/-- Where column `j` of token `k` lies: at position `k % 1024` of batch `k / 1024`. -/
def place {n : ℕ} (k : Fin 4096) (j : Fin n) : Shape.Idx ⟨3, ![4, 1024, n]⟩ := ix3 (⟨k.val / 1024, by omega⟩ : Fin 4) (⟨k.val % 1024, by omega⟩ : Fin 1024) j

theorem place_token {n : ℕ} (b : Fin 4) (s : Fin 1024) (j : Fin n) (h : b.val * 1024 + s.val < 4096) : place ⟨b.val * 1024 + s.val, h⟩ j = ix3 b s j := by
  unfold place
  congr 1 <;> (ext; dsimp only; omega)

/-- The token view. -/
def tokens {n : ℕ} {α : Type} (v : Shape.Idx ⟨3, ![4, 1024, n]⟩ → α) : Shape.Idx ⟨2, ![4096, n]⟩ → α := fun i => v (place (i 0) (i 1))

/-- Over the token view, the second call's codes are the specification's, -/
theorem quantised_tokens (dy : FVec Ideal Spec.Tokens .bf16) : quantised (tokens dy) (fun _ => Spec.inv dy) = tokens (Spec.codes dy) := rfl

/-- and the third call's product its gradient. -/
theorem product_tokens (x : FVec Ideal ⟨3, ![4, 1024, 8192]⟩ .fp8e4m3) (xs : FVec Ideal ⟨0, ![]⟩ .f32) (dy : FVec Ideal Spec.Tokens .bf16) (acc : FVec Ideal S8192x2560 .f32) :
    product (fun _ => xs ix0) (fun _ => Spec.scale dy) (tokens x) (tokens (Spec.codes dy)) acc = Spec.grad x xs dy acc := by
  funext j
  unfold product Spec.grad
  rw [Spec.sum_tokens]
  congr 2
  refine Finset.sum_congr rfl fun b _ => Finset.sum_congr rfl fun s _ => ?_
  exact congrArg₂ (· * ·) (congrArg x (place_token b s (j 0) _)) (congrArg (Spec.codes dy) (place_token b s (j 1) _))

/-! ## What the second call finds and leaves -/

theorem v0_tokens : V1 m c main_v0 = tokens (argX m c) := by
  funext i
  idx_vars i
  exact x_read m c i0 i1

theorem v1_tokens : V1 m c main_v1 = tokens (argDy m c) := by
  funext i
  idx_vars i
  exact dy_read m c i0 i1

theorem v1_in : Ve1 m (outsC m) c main_v1 = tokens (argDy m c) :=
  (V2_of m (outsC m) c main_v1 (by decide)).trans (v1_tokens m c)

theorem inv_in : Ve1 m (outsC m) c main_v2_1 = fun _ => Spec.inv (argDy m c) :=
  (V2_at_main_v2_1 m (outsC m) c).trans ((outsC_main_v2_1 m 2 c).trans (inv_val m c))

theorem codes_val : (dat1 m (outsC m) c).arrAt 2 cfg1.N = tokens (Spec.codes (argDy m c)) :=
  (call1 (Ve1 m (outsC m)) c).trans ((congrArg₂ quantised (v1_in m c) (inv_in m c)).trans (quantised_tokens _))

/-! ## What the third call finds and leaves -/

theorem scale_in : Ve2 m (outsC m) c main_v2_0 = fun _ => Spec.scale (argDy m c) :=
  (V4_of m (outsC m) c main_v2_0 (by decide)).trans <| (V3_of m (outsC m) c main_v2_0 (by decide)).trans <|
    (V2_at_main_v2_0 m (outsC m) c).trans ((outsC_main_v2_0 m 2 c).trans (scale_val m c))

/-- The one-entry view of a scalar. -/
theorem scalar_view (f : Valuation τ sig (Elt Ideal)) (xs : FVec Ideal ⟨0, ![]⟩ .f32) (h : f (Proc.devRef .tc main_arg1) = xs) :
    StableHlo.after hostOps2 f (Proc.devRef .tc main_v4) = fun _ : S1x1.Idx => xs ix0 := by
  simp only [hostOps2]
  after_results
  rw [h]
  funext i
  idx_vars i
  pointwise
  done

theorem xs_in : Ve2 m (outsC m) c main_v4 = fun _ => argXs m c ix0 :=
  scalar_view (V3 m (outsC m) c) (argXs m c)
    ((V3_of m (outsC m) c main_arg1 (by decide)).trans <| (V2_of m (outsC m) c main_arg1 (by decide)).trans (V1_of m c main_arg1 (by decide)))

theorem x_in : Ve2 m (outsC m) c main_v0 = tokens (argX m c) :=
  (V4_of m (outsC m) c main_v0 (by decide)).trans <| (V3_of m (outsC m) c main_v0 (by decide)).trans <|
    (V2_of m (outsC m) c main_v0 (by decide)).trans (v0_tokens m c)

theorem codes_in : Ve2 m (outsC m) c main_v3 = tokens (Spec.codes (argDy m c)) :=
  (V4_of m (outsC m) c main_v3 (by decide)).trans <| (V3_at_main_v3 m (outsC m) c).trans ((outsC_main_v3 m 3 c).trans (codes_val m c))

theorem acc_in : Ve2 m (outsC m) c main_arg3 = argAcc m c :=
  (V4_of m (outsC m) c main_arg3 (by decide)).trans <| (V3_of m (outsC m) c main_arg3 (by decide)).trans <|
    (V2_of m (outsC m) c main_arg3 (by decide)).trans (V1_of m c main_arg3 (by decide))

theorem grad_val : (dat2 m (outsC m) c).arrAt 5 cfg2.N = Spec.grad (argX m c) (argXs m c) (argDy m c) (argAcc m c) := by
  refine (call2 (Ve2 m (outsC m)) c).trans ?_
  rw [xs_in, scale_in, x_in, codes_in, acc_in]
  exact product_tokens _ _ _ _

/-! ## The results -/

theorem end_grad : V6 m (outsC m) c main_v5 = Spec.grad (argX m c) (argXs m c) (argDy m c) (argAcc m c) :=
  (V6_of m (outsC m) c main_v5 (by decide)).trans <| (V5_at_main_v5 m (outsC m) c).trans ((outsC_main_v5 m 5 c).trans (grad_val m c))

/-- The three-dimensional view of a token view, and the scalar view of one entry. -/
theorem token_view (f : Valuation τ sig (Elt Ideal)) (v : FVec Ideal Spec.Tokens .fp8e5m2) (h : f (Proc.devRef .tc main_v3) = tokens v) :
    StableHlo.after hostOps3 f (Proc.devRef .tc main_v6) = v := by
  simp only [hostOps3]
  after_results
  rw [h]
  funext i
  idx_vars i
  pointwise
  exact congrArg v (place_token i0 i1 i2 (by omega))

theorem entry_view (f : Valuation τ sig (Elt Ideal)) (s : EReal) (h : f (Proc.devRef .tc main_v2_0) = fun _ => s) :
    StableHlo.after hostOps3 f (Proc.devRef .tc main_v7) = fun _ => s := by
  simp only [hostOps3]
  after_results
  rw [h]
  funext i
  pointwise
  done

theorem end_codes : V6 m (outsC m) c main_v6 = Spec.codes (argDy m c) :=
  token_view (V5 m (outsC m) c) _ ((V5_of m (outsC m) c main_v3 (by decide)).trans (codes_in m c))

theorem end_scale : V6 m (outsC m) c main_v7 = fun _ => Spec.scale (argDy m c) :=
  entry_view (V5 m (outsC m) c) _ ((V5_of m (outsC m) c main_v2_0 (by decide)).trans (scale_in m c))

end Cert.KernelIdeal.Whole

end
-- ==== Proof.Reference.lean ====
/- The reference's results are the specification's. -/
module

public import proofs.«01_k».proof.Proof.Spec
public import proofs.«01_k».proof.Proof.Gen.ReferenceIdeal.Frame
public import Idealize.ShloMosaic.Lib.Pipeline.ValueKit

@[expose] public section

set_option maxRecDepth 16384

noncomputable section

namespace Cert.ReferenceIdeal.Whole

open Cert.ReferenceIdeal Cert.ReferenceIdeal.Gen Idealize.ShloMosaic Idealize.ShloMosaic.TcCoe Cert.Exponent

/-- The maximum over the one-batch view of dy is the maximum. -/
theorem fold_amax (dy : FVec Ideal Spec.Tokens .bf16) (S : Finset S1x4x1024x2560.Idx) (hS : ∀ i, i ∈ S) :
    Finset.fold max (Ideal.ofBits FTy.f32 0xFF800000#32) (fun x => FloatOps.absf (F := Ideal) (φ := .f32) (dy (ix3 (x 1) (x 2) (x 3)))) S = Spec.amax dy := by
  refine eq_of_forall_ge_iff fun u => ?_
  rw [Spec.amax_le, Finset.fold_max_le, neginf_word]
  refine ⟨fun h i => ?_, fun h => ⟨bot_le, fun i _ => h _⟩⟩
  have := h.2 (ix4 0 (i 0) (i 1) (i 2)) (hS _)
  rw [eq_ix3 i]
  exact this

/-- The least exponent above a value, as the reference's lanes find it. -/
theorem fold_least (a : EReal) :
    Finset.fold min (Ideal.ofBits .f32 0x7F800000#32) (fun x : Fin 1 × Fin 384 =>
      if a < FloatOps.exp2 (F := Ideal) (φ := .f32) (FloatOps.sitofp (F := Ideal) .f32 (IntOp.subi (BitVec.ofNat 32 x.2.val) 149#32))
        then FloatOps.sitofp (F := Ideal) .f32 (IntOp.subi (BitVec.ofNat 32 x.2.val) 149#32) else Ideal.ofBits .f32 0x436B0000#32) Finset.univ
      = (((count a - 149 : ℤ) : ℝ) : EReal) := by
  have h : ∀ k : Fin 384, FloatOps.sitofp (F := Ideal) .f32 (IntOp.subi (BitVec.ofNat 32 k.val) 149#32) = (((k.val - 149 : ℤ) : ℝ) : EReal) := fun k => by
    rw [← lane_int k]; rfl
  rw [← least_above, inf_word, top_word]
  refine eq_of_forall_le_iff fun u => ?_
  rw [Finset.le_fold_min, Finset.le_fold_min]
  have e : ∀ k : Fin 384, FloatOps.exp2 (F := Ideal) (φ := .f32) (((k.val - 149 : ℤ) : ℝ) : EReal) = thr k := fun k => exp2_int _
  simp only [h, e]
  exact ⟨fun hu => ⟨hu.1, fun k _ => hu.2 (0, k) (Finset.mem_univ _)⟩, fun hu => ⟨hu.1, fun k _ => hu.2 k.2 (Finset.mem_univ _)⟩⟩

theorem pay4 (dy : FVec Ideal Spec.Tokens .bf16) : k0_pay4 (F := Ideal) dy = ((expo (Spec.amax dy) : ℝ) : EReal) := by
  have hall : ∀ i, i ∈ (Finset.univ.filter fun i => reduces_S1x4x1024x2560_S1.drop i = ix1 0) := fun i => by
    refine Finset.mem_filter.2 ⟨Finset.mem_univ _, funext fun a => ?_⟩
    fin_cases a
    exact Subsingleton.elim (α := Fin 1) _ _
  rw [← reference_expo, ← fold_least]
  pointwise [k0_pay4, k0_pay3]
  rw [fold_amax dy _ hall]

theorem scalar_exp2 (e : EReal) : Scalar.exp2 (F := Ideal) (φ := .f32) e = Ideal.exp2 e := rfl

theorem pay5 (dy : FVec Ideal Spec.Tokens .bf16) : k0_pay5 (F := Ideal) dy = Spec.scale dy := by
  unfold k0_pay5
  rw [pay4, scalar_exp2, exp2_int, Spec.scale]

theorem pay6 (dy : FVec Ideal Spec.Tokens .bf16) : k0_pay6 (F := Ideal) dy = Spec.codes dy := by
  funext i
  idx_vars i
  unfold k0_pay6
  rw [pay4, Spec.codes, Spec.inv, ← exp2_neg_int]
  generalize (((expo (Spec.amax dy) : ℤ) : ℝ) : EReal) = e
  rw [← scalar_exp2]
  pointwise [k0_pay3]

variable (m : (ℓ : Loc nD τ sig) → Buf (Elt Ideal) ℓ) (c : Dev nD)

/-- The arguments, read on core `c`. -/
abbrev argX : FVec Ideal ⟨3, ![4, 1024, 8192]⟩ .fp8e4m3 := m ((c.tc : Thread nD τ).loc main_arg0)
abbrev argXs : FVec Ideal ⟨0, ![]⟩ .f32 := m ((c.tc : Thread nD τ).loc main_arg1)
abbrev argDy : FVec Ideal Spec.Tokens .bf16 := m ((c.tc : Thread nD τ).loc main_arg2)
abbrev argAcc : FVec Ideal ⟨2, ![8192, 2560]⟩ .f32 := m ((c.tc : Thread nD τ).loc main_arg3)

theorem idx0 : ∀ t : Fin cfg0.N, win0_0.index t = ![0, 0, 0] ∧ win0_1.index t = ![0, 0] ∧ win0_2.index t = ![0, 0, 0] ∧ win0_3.index t = ![0, 0]
    ∧ win0_4.index t = ![0, 0] ∧ win0_5.index t = ![0, 0, 0] ∧ win0_6.index t = ![0, 0] :=
  (by decide +kernel : ∀ t : Fin grid0.N, _)

theorem dyBlock (t : Fin cfg0.N) : (iblk m c 2 t : FVec Ideal Spec.Tokens .bf16) = argDy m c := by
  funext i
  idx_vars i
  blk_point [iblk, V, idx0 t]

theorem codes_val : (dats m 0 c).arrAt 5 cfg0.N = Spec.codes (argDy m c) := by
  refine (dats m 0 c).arrAt_eq_of_covers 5 _ (by decide +kernel) fun t hf y => ?_
  blk_simp
  rw [after0_5]
  unfold out0_5
  frame_out
  rw [dyBlock, pay6]
  idx_vars y
  blk_point [idx0 t]

theorem scale_val : (dats m 0 c).arrAt 6 cfg0.N = fun _ => Spec.scale (argDy m c) := by
  refine (dats m 0 c).arrAt_eq_of_covers 6 _ (by decide +kernel) fun t hf y => ?_
  blk_simp
  rw [after0_6]
  unfold out0_6
  frame_out
  rw [dyBlock, pay5]
  pointwise [k0_pay2]

theorem xs_read (i : S1x1.Idx) : V m c main_v0 i = argXs m c ix0 := by
  idx_vars i
  show StableHlo.after (List.flatten [hostOps0]) (fun b => m (c, b)) (Proc.devRef .tc main_v0) (ix2 i0 i1) = _
  simp only [hostOps0, List.flatten_cons, List.flatten_nil, List.append_nil]
  after_results
  pointwise
  done

theorem grad_val : (dats m 0 c).arrAt 4 cfg0.N = Spec.grad (argX m c) (argXs m c) (argDy m c) (argAcc m c) := by
  refine (dats m 0 c).arrAt_eq_of_covers 4 _ (by decide +kernel) fun t hf y => ?_
  blk_simp
  rw [after0_4]
  unfold out0_4
  frame_out
  rw [dyBlock, pay5]
  idx_vars y
  pointwise [k0_pay1, k0_pay7, Spec.grad, pay6]
  blk_point [iblk, idx0 t]
  exact xs_read m c _

/-- The scalar view of one entry. -/
theorem entry_view (f : Valuation τ sig (Elt Ideal)) (s : EReal) (h : f (Proc.devRef .tc main_v1_2) = fun _ => s) :
    StableHlo.after hostOps1 f (Proc.devRef .tc main_v2) = fun _ => s := by
  simp only [hostOps1]
  after_results
  rw [h]
  funext i
  pointwise

theorem end_scale : Pipeline.afterTail₀ cfgs (dats m) 0 (V0 m) [hostOps1] c main_v2 = fun _ => Spec.scale (argDy m c) := by
  unfold Pipeline.afterTail₀
  rw [List.flatten_cons, List.flatten_nil, List.append_nil]
  exact entry_view _ _ ((Pipeline.withArrays_arr spec0 (by decide) c _ _ 6).trans (scale_val m c))

end Cert.ReferenceIdeal.Whole

end
-- ==== Proof.Claims.lean ====
/- The claims, one by one. -/
module

public import proofs.«01_k».proof.Defs
public import proofs.«01_k».proof.Proof.Gen.Kernel
public import proofs.«01_k».proof.Proof.Values
public import proofs.«01_k».proof.Proof.Reference
public import Idealize.ShloMosaic.Lib.Claim
public import Idealize.ShloMosaic.Lib.Pointwise
public import Idealize.ShloMosaic.Lib.Pipeline.ValueKit
public import Idealize.ShloMosaic.Lib.Pipeline.Regions

@[expose] public section

set_option maxRecDepth 16384

noncomputable section

namespace Cert.Proof

open Idealize.ShloMosaic Idealize.SL.Sem Idealize.ShloMosaic.TcCoe

/-- The program as printed and the program read at the ideal instance are one text: the frame claim of the one is the other's, at the machine's floats. -/
theorem frame_same [Cert.Kernel.Facts] : Cert.quiescent_Kernel =
    (∀ (m : (ℓ : Loc Cert.KernelIdeal.nD Cert.KernelIdeal.τ Cert.KernelIdeal.sig) → Buf (Elt Bits) ℓ) (g : Dev Cert.KernelIdeal.nD → PrngReg), True →
      θ_run (Cert.KernelIdeal.defs (F := Bits)) (onTc (τ := Cert.KernelIdeal.τ) (Cert.KernelIdeal.main (F := Bits))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0)) := by
  chain_rfl

theorem frame_kernel [Cert.Kernel.Facts] : Cert.quiescent_Kernel := by
  rw [frame_same]
  intro m g _
  exact Cert.KernelIdeal.Whole.frame (F := Bits) m g

theorem algebraic [Cert.KernelIdeal.Facts] [Cert.ReferenceIdeal.Facts] : Cert.algebraic_KernelIdeal_ReferenceIdeal := by
  intro m g m' g' _ hagree
  refine ⟨fun c => Cert.Spec.grad (Cert.KernelIdeal.Whole.argX m c) (Cert.KernelIdeal.Whole.argXs m c) (Cert.KernelIdeal.Whole.argDy m c) (Cert.KernelIdeal.Whole.argAcc m c),
    fun c => Cert.Spec.codes (Cert.KernelIdeal.Whole.argDy m c), fun c => (fun _ => Cert.Spec.scale (Cert.KernelIdeal.Whole.argDy m c)), ?_, ?_⟩
  · refine (θ_run _ _ _).mono (fun r h c => ?_) (Cert.KernelIdeal.Whole.run_all m g)
    have at_end : ∀ b : Ref Cert.KernelIdeal.sig .tc, ¬ (Proc.devRef .tc b : DevRef Cert.KernelIdeal.τ Cert.KernelIdeal.sig).isScoped →
        r.2.mem ((c.tc : Thread Cert.KernelIdeal.nD Cert.KernelIdeal.τ).loc b) = Cert.KernelIdeal.Gen.V6 m (Cert.KernelIdeal.Whole.outsC m) c (Proc.devRef .tc b) :=
      fun b hb => h.1 c _ (Cert.KernelIdeal.Whole.uc b hb)
    exact ⟨(at_end _ (by decide)).trans (Cert.KernelIdeal.Whole.end_grad m c), (at_end _ (by decide)).trans (Cert.KernelIdeal.Whole.end_codes m c),
      (at_end _ (by decide)).trans (Cert.KernelIdeal.Whole.end_scale m c), (at_end _ (by decide)).trans (Cert.KernelIdeal.Gen.V6_main_arg0 m _ c),
      (at_end _ (by decide)).trans (Cert.KernelIdeal.Gen.V6_main_arg1 m _ c), (at_end _ (by decide)).trans (Cert.KernelIdeal.Gen.V6_main_arg2 m _ c),
      (at_end _ (by decide)).trans (Cert.KernelIdeal.Gen.V6_main_arg3 m _ c)⟩
  · run_from Cert.ReferenceIdeal.Gen.run_main m' g'
    · rw [Cert.ReferenceIdeal.Whole.grad_val]
      simp only [Cert.ReferenceIdeal.Whole.argX, Cert.ReferenceIdeal.Whole.argXs, Cert.ReferenceIdeal.Whole.argDy, Cert.ReferenceIdeal.Whole.argAcc, hagree c]
    · rw [Cert.ReferenceIdeal.Whole.codes_val]
      simp only [Cert.ReferenceIdeal.Whole.argDy, hagree c]
    · rw [Cert.ReferenceIdeal.Whole.end_scale]
      simp only [Cert.ReferenceIdeal.Whole.argDy, hagree c]
      rfl
    · rw [Cert.ReferenceIdeal.Gen.W_main_arg1]
      exact (hagree c).2.1

end Cert.Proof

end
-- ==== Proof.lean ====
module

public import proofs.«01_k».proof.Defs
public import proofs.«01_k».proof.Proof.Gen.Kernel
public import proofs.«01_k».proof.Proof.Gen.KernelIdeal.Regions
public import proofs.«01_k».proof.Proof.Gen.Own.KernelIdeal.RegionsD
public import proofs.«01_k».proof.Proof.Gen.ReferenceIdeal.Frame
public import proofs.«01_k».proof.Proof.Claims

@[expose] public section

noncomputable section

namespace Cert.Proof

theorem claim : Cert.Claim := ⟨Cert.Kernel.Gen.facts, Cert.KernelIdeal.Gen.facts, Cert.ReferenceIdeal.Gen.facts,
  frame_kernel, fun m g _ => Cert.KernelIdeal.Whole.frame m g, fun m g _ => Cert.ReferenceIdeal.Gen.frame m g, trivial, algebraic⟩

end Cert.Proof

end
